-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 2048]⟩ ⟨2, ![2048, 2048]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 512]⟩ ⟨2, ![2048, 2048]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 512]⟩ ⟨2, ![2048, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x2048 : Shape := ⟨2, ![512, 2048]⟩
abbrev S2048x512 : Shape := ⟨2, ![2048, 512]⟩
abbrev S3 : Shape := ⟨1, ![3]⟩
abbrev S_ : Shape := ⟨0, ![]⟩
abbrev S1 : Shape := ⟨1, ![1]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S512x2048, .bf16⟩
  | .hbm, ⟨1, _⟩ => ⟨S2048x512, .bf16⟩
  | .hbm, ⟨2, _⟩ => ⟨S2048x512, .f32⟩
  | .local _ .vmem, ⟨0, _⟩ => ⟨S512x2048, .bf16⟩
  | .local _ .vmem, ⟨1, _⟩ => ⟨S2048x512, .bf16⟩
  | .local _ .vmem, ⟨2, _⟩ => ⟨S2048x512, .f32⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_5 : BitVec 32 := 1#32
  let v10 : BitVec 32 := Scalar.muli v4 c1_i32_5
  let v11 : BitVec 32 := Scalar.addi c0_i32 v10
  v11.toNat
def k0_dev2 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_7 : BitVec 32 := 1#32
  let v12 : BitVec 32 := Scalar.muli v6 c1_i32_7
  let v13 : BitVec 32 := Scalar.addi c0_i32_8 v12
  v13.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v7 : BitVec 32 := Scalar.addi v2 c2_i32
  let c4_i32_3 : BitVec 32 := 4#32
  let v8 : BitVec 32 := Scalar.remsi v7 c4_i32_3
  let c1_i32_10 : BitVec 32 := 1#32
  let v14 : BitVec 32 := Scalar.muli v8 c1_i32_10
  let v15 : BitVec 32 := Scalar.addi c0_i32_11 v14
  v15.toNat
def k0_dev4 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_15 : BitVec 32 := 1#32
  let v16 : BitVec 32 := Scalar.muli v6 c1_i32_15
  let v17 : BitVec 32 := Scalar.addi c0_i32_16 v16
  v17.toNat
def k0_dev5 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_19 : BitVec 32 := 1#32
  let v22 : BitVec 32 := Scalar.muli v4 c1_i32_19
  let v23 : BitVec 32 := Scalar.addi c0_i32_20 v22
  v23.toNat
def k0_dev6 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v7 : BitVec 32 := Scalar.addi v2 c2_i32
  let c4_i32_3 : BitVec 32 := 4#32
  let v8 : BitVec 32 := Scalar.remsi v7 c4_i32_3
  let c1_i32_23 : BitVec 32 := 1#32
  let v28 : BitVec 32 := Scalar.muli v8 c1_i32_23
  let v29 : BitVec 32 := Scalar.addi c0_i32_24 v28
  v29.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v52 : BitVec 32 := Scalar.muli v2 c512_i32
  let v53 : Index := Scalar.indexCast v52
  let c0_32 : Index := 0#32
  ![v53.toNat, 0]
def k0_off2 (d0 : Dev nD) (c3_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c3_i32
  let c4_i32_0 : BitVec 32 := 4#32
  let v4 : BitVec 32 := Scalar.remsi v3 c4_i32_0
  let c512_i32_46 : BitVec 32 := 512#32
  let v76 : BitVec 32 := Scalar.muli v4 c512_i32_46
  let v77 : Index := Scalar.indexCast v76
  let c0_47 : Index := 0#32
  ![v77.toNat, 0]
abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Peers.lean ====
/-
Who talks to whom, for the four devices of the mesh.

Device `c` makes three transfers, numbered 0, 1, 2. Transfer `j` goes to `peer j c`, which is `c + 1`, `c + 3`, `c + 2`
modulo 4. Seen from the receiving end, landing buffer `j` of `c` is filled by `origin j c`, which is `c + 3`, `c + 1`,
`c + 2`. A device uses seven semaphores (`Role`) and pays nine increments (`Act`): one barrier unit to each of the
three devices that will write to it, and for each transfer one completion on its own send semaphore and one on the
peer's receive semaphore. This module is only arithmetic and enumeration; both printings of the program use it.
-/
module

public import Idealize.ShloMosaic.Lib.Pipeline.Kit

@[expose] public section

namespace Cert.Peers

open Idealize.ShloMosaic

set_option backward.proofsInPublic true in
/-- The device `k` places after `c`, cyclically. -/
def rot (k : Nat) (c : Dev 4) : Dev 4 := ⟨(c.val + k) % 4, Nat.mod_lt _ (by decide)⟩

/-- How far transfer `j` travels. -/
def stride : Fin 3 → Nat | 0 => 1 | 1 => 3 | 2 => 2

/-- The device that transfer `j` of `c` goes to. -/
def peer (j : Fin 3) (c : Dev 4) : Dev 4 := rot (stride j) c
/-- The device whose transfer `j` goes to `c`. -/
def origin (j : Fin 3) (c : Dev 4) : Dev 4 := rot (4 - stride j) c

theorem origin_peer (j : Fin 3) (c : Dev 4) : origin j (peer j c) = c := by revert j c; decide
theorem peer_origin (j : Fin 3) (c : Dev 4) : peer j (origin j c) = c := by revert j c; decide

/-- The four row blocks a device computes, its own and those of the three devices it hears from, are all of them. -/
theorem blocks_cover (c : Dev 4) :
    (insert (origin 2 c) (insert (origin 1 c) (insert (origin 0 c) (insert c (∅ : Finset (Dev 4)))))) = Finset.univ := by
  revert c; decide

/-- The seven semaphores of one device. -/
inductive Role
  | bar
  | send (j : Fin 3)
  | recv (j : Fin 3)
  deriving DecidableEq

/-- The semaphores one by one. -/
def roles : List Role := [.bar, .send 0, .send 1, .send 2, .recv 0, .recv 1, .recv 2]
instance : Fintype Role where
  elems := roles.toFinset
  complete r := by rcases r with _ | j | j <;> (try fin_cases j) <;> decide
theorem roles_univ : (Finset.univ : Finset Role) = roles.toFinset := rfl
theorem roles_nodup : roles.Nodup := by decide

/-- The nine increments one device is responsible for. -/
inductive Act
  | ready (j : Fin 3)
  | land (j : Fin 3)
  | sent (j : Fin 3)
  deriving DecidableEq

/-- The increments one by one. -/
def acts : List Act := [.ready 0, .ready 1, .ready 2, .land 0, .land 1, .land 2, .sent 0, .sent 1, .sent 2]
instance : Fintype Act where
  elems := acts.toFinset
  complete a := by rcases a with j | j | j <;> fin_cases j <;> decide
theorem acts_univ : (Finset.univ : Finset Act) = acts.toFinset := rfl
theorem acts_nodup : acts.Nodup := by decide

/-- The semaphore an increment of device `c` arrives at. -/
def tgt (c : Dev 4) : Act → Dev 4 × Role
  | .ready j => (origin j c, .bar)
  | .land j => (peer j c, .recv j)
  | .sent j => (c, .send j)

/-- The name of the increment at the semaphore it arrives at: only the barrier is raised by more than one. -/
def tag : Act → Fin 3
  | .ready j => j
  | .land _ => 0
  | .sent _ => 0

theorem tgt_tag_injective : Function.Injective fun x : Dev 4 × Act => (tgt x.1 x.2, tag x.2) := by decide

/-- What a device owes others when the kernel starts, in the order in which it pays: the three barrier units, then the
    three landings. -/
def dues : List Act := [.ready 0, .ready 1, .ready 2, .land 0, .land 1, .land 2]

/-- Of all the increments owed at the start, three arrive at each barrier and one at each receive semaphore. -/
theorem dues_bar (c : Dev 4) : (∑ d : Dev 4, dues.countP fun a => tgt d a = (c, .bar)) = 3 := by revert c; decide
theorem dues_recv (j : Fin 3) (c : Dev 4) : (∑ d : Dev 4, dues.countP fun a => tgt d a = (c, .recv j)) = 1 := by
  revert j c; decide

end Cert.Peers

end
-- ==== Proof.ProtocolKernelIdeal.lean ====
/-
The agreement between the four devices running `KernelIdeal`, and what each buffer holds.

Every semaphore is used for one round. A device's barrier receives three units; the unit named `j` comes from
`peer j c` and hands over the landing buffer `j` of that device, whatever it holds, which transfer `j` of `c` writes.
The receive semaphore `j` of `c` is raised once, by the transfer from `origin j c`, and hands `c` its landing buffer `j`
holding that device's block of `x`.
The send semaphore `j` is raised once, by the same transfer's departure, and returns the share of the staged `x` block
that the transfer was reading. The staged block is read while three transfers from it are under way, so its ownership
is cut into four shares: one for each transfer and one for the loads.
-/
module

public import proofs.«01_k».proof.Proof.Peers
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealRun

open Cert.KernelIdeal Cert.KernelIdeal.Gen Cert.Peers

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the library's for the staging copies, and one for this agreement with increments named by `Fin 3`. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at the start: any contents, every counter zero, any generator registers. -/
def s₀ : MemSt nD τ sig (Elt F) := ⟨m, fun _ => 0, ρ⟩

/-! ## Buffers and semaphores -/

abbrev xM : Memref sig .tc .vmem S512x2048 .bf16 := Memref.whole cc0_stg0_0
abbrev wM : Memref sig .tc .vmem S2048x512 .bf16 := Memref.whole cc0_stg1_0
abbrev oM : Memref sig .tc .vmem S2048x512 .f32 := Memref.whole cc0_stg2_0

/-- The landing buffers. -/
def scrM : Fin 3 → Memref sig .tc .vmem S512x2048 .bf16
  | 0 => Memref.whole cc0_scratch0
  | 1 => Memref.whole cc0_scratch1
  | 2 => Memref.whole cc0_scratch2

abbrev barS : Sem sig := (SemArray.scalar (sig.barrier 0 rfl) : Sems sig S_).sem
/-- Entry `j` of the array of send semaphores. -/
def sendS : Fin 3 → DmaSem sig
  | 0 => ((cc0_scratch3.slice (Rect.unit (s := S3) ![0] S1.size inb_S3_S1_0)).squeeze S_ squeezes_S1_S_).sem
  | 1 => ((cc0_scratch3.slice (Rect.unit (s := S3) ![1] S1.size inb_S3_S1_1)).squeeze S_ squeezes_S1_S_).sem
  | 2 => ((cc0_scratch3.slice (Rect.unit (s := S3) ![2] S1.size inb_S3_S1_2)).squeeze S_ squeezes_S1_S_).sem
/-- Entry `j` of the array of receive semaphores. -/
def recvS : Fin 3 → DmaSem sig
  | 0 => ((cc0_scratch4.slice (Rect.unit (s := S3) ![0] S1.size inb_S3_S1_0)).squeeze S_ squeezes_S1_S_).sem
  | 1 => ((cc0_scratch4.slice (Rect.unit (s := S3) ![1] S1.size inb_S3_S1_1)).squeeze S_ squeezes_S1_S_).sem
  | 2 => ((cc0_scratch4.slice (Rect.unit (s := S3) ![2] S1.size inb_S3_S1_2)).squeeze S_ squeezes_S1_S_).sem

/-- The semaphore a role names, the same on every device. -/
def csem : Role → SemLoc sig
  | .bar => .reg barS
  | .send j => .dma (sendS j)
  | .recv j => .dma (recvS j)
/-- A role's semaphore on a given device. -/
abbrev kcell (ck : Dev nD × Role) : GSem nD τ sig := ((ck.1 : Thread nD τ), csem ck.2)

theorem csem_injective : Function.Injective csem := by decide
theorem kcell_injective : Function.Injective kcell := fun ⟨c, r⟩ ⟨c', r'⟩ h =>
  Prod.ext (congrArg (fun g : GSem nD τ sig => g.1.1) h) (csem_injective (congrArg Prod.snd h))

/-- The amount a transfer raises a semaphore by. -/
@[irreducible] def N : ℕ := (xM : Memref sig .tc .vmem S512x2048 .bf16).view.dmaCredit
theorem credit_x : (xM : Memref sig .tc .vmem S512x2048 .bf16).view.dmaCredit = N := by rw [N]
theorem credit_scr (j : Fin 3) : (scrM j).view.dmaCredit = N := credit_x
theorem N_pos : 0 < N := by rw [← credit_x]; exact View.dmaCredit_pos _ (by decide)

/-- The amount of one increment at a role's semaphore. -/
def amt : Role → ℕ
  | .bar => 1
  | .send _ => N
  | .recv _ => N
theorem amt_pos (r : Role) : 0 < amt r := by
  cases r
  · exact Nat.one_pos
  · exact N_pos
  · exact N_pos

/-! ## Contents -/

/-- Device `c`'s block of `x`, as staged. -/
def xstg (c : Dev nD) : (cc0_stg0_0 : Ref sig .tc).ty.Contents (Elt F) :=
  (win0_0.blk (0 : Fin 1)).view.read (Elt F) ((s₀ m ρ).mem ((c : Thread nD τ).loc main_arg0))
/-- Device `c`'s block of the weights, as staged. -/
def wstg (c : Dev nD) : (cc0_stg1_0 : Ref sig .tc).ty.Contents (Elt F) :=
  (win0_1.blk (0 : Fin 1)).view.read (Elt F) ((s₀ m ρ).mem ((c : Thread nD τ).loc main_arg1))

/-- The share of the staged `x` that transfer `j` reads through; -/
def lend : Fin 3 → PosShare TreeShare
  | 0 => fullShare.left
  | 1 => fullShare.right.left
  | 2 => fullShare.right.right.left
/-- and the share the loads keep. -/
def keep : PosShare TreeShare := fullShare.right.right.right

/-- Landing buffer `j` of device `c` holding `X`. -/
def scr (j : Fin 3) (c : Dev nD) (X : S512x2048.Idx → Elt F .bf16) : sProp 𝕄 := owns (c : Thread nD τ) (scrM j) fullShare X
/-- A share of the staged `x` of device `c`. -/
def xPart (q : PosShare TreeShare) (c : Dev nD) : sProp 𝕄 :=
  owns (c : Thread nD τ) (xM : Memref sig .tc .vmem S512x2048 .bf16) q (xstg m ρ c)

omit [FloatOps F] in
instance scr_storable (j : Fin 3) (c : Dev nD) (X) : BI.Storable (upEmb : UEmb _ 𝕄) (scr (F := F) j c X) := by unfold scr; infer_instance
omit [FloatOps F] in
instance xPart_storable (q : PosShare TreeShare) (c : Dev nD) : BI.Storable (upEmb : UEmb _ 𝕄) (xPart (F := F) m ρ q c) := by
  unfold xPart; infer_instance

/-! ## The schedule -/

/-- What an increment hands over: at the barrier of `c` the one named `d`, at a send or receive semaphore the only one. -/
def pay : Role → Dev nD → Fin 3 → sProp 𝕄
  | .bar, c, d => iprop(∃ X, scr d (peer d c) X)
  | .send j, c, _ => xPart m ρ (lend j) c
  | .recv j, c, _ => scr j c (xstg m ρ (origin j c))

omit [FloatOps F] in
theorem pay_bar (c : Dev nD) (d : Fin 3) : pay (F := F) m ρ .bar c d = iprop(∃ X, scr d (peer d c) X) := rfl
omit [FloatOps F] in
theorem pay_send (j : Fin 3) (c : Dev nD) (d : Fin 3) : pay (F := F) m ρ (.send j) c d = xPart m ρ (lend j) c := rfl
omit [FloatOps F] in
theorem pay_recv (j : Fin 3) (c : Dev nD) (d : Fin 3) : pay (F := F) m ρ (.recv j) c d = scr j c (xstg m ρ (origin j c)) := rfl

omit [FloatOps F] in
instance pay_storable (r : Role) (c : Dev nD) (d : Fin 3) : BI.Storable (upEmb : UEmb _ 𝕄) (pay (F := F) m ρ r c d) := by
  cases r <;> unfold pay <;> infer_instance

/-- The names of the increments a role's semaphore receives. -/
def names : Role → Finset (Fin 3) | .bar => Finset.univ | .send _ => {0} | .recv _ => {0}

/-- The total a role's semaphore is raised by. -/
def total (r : Role) : ℕ := (names r).card * amt r
theorem total_bar : total .bar = 3 := rfl
theorem total_send (j : Fin 3) : total (.send j) = N := Nat.one_mul N
theorem total_recv (j : Fin 3) : total (.recv j) = N := Nat.one_mul N

/-- The schedule: one round, in which each semaphore of the agreement gets the increments just described. A semaphore
    outside it gets none. -/
def rd : Rounds.Schedule (GSem nD τ sig) (Fin 3) 𝕄 where
  duties g r := if r = 0 ∧ g.1.2 = .tc then Function.extend csem names (fun _ => ∅) g.2 else ∅
  unitless _ := False
  amount g _ _ := Function.extend csem amt (fun _ => 1) g.2
  payload g _ d := Function.extend csem (fun r => pay m ρ r g.1.1 d) (fun _ => iprop(emp)) g.2
  amount_pos g _ _ _ := by
    rw [Function.extend_def]; split
    · exact amt_pos _
    · exact Nat.one_pos

omit [FloatOps F] in
instance rd_payload_storable (g : GSem nD τ sig) (r : ℕ) (d : Fin 3) :
    BI.Storable (upEmb : UEmb _ 𝕄) ((rd (F := F) m ρ).payload g r d) := by
  show BI.Storable upEmb (Function.extend csem (fun r => pay m ρ r g.1.1 d) (fun _ => iprop(emp)) g.2)
  rw [Function.extend_def]; split <;> infer_instance

section Sched
variable (c : Dev nD) (r : Role)

omit [FloatOps F] in
theorem duties_eq : (rd (F := F) m ρ).duties (kcell (c, r)) 0 = names r := by
  dsimp only [rd, kcell]; rw [if_pos ⟨rfl, rfl⟩]; exact csem_injective.extend_apply _ _ _
omit [FloatOps F] in
theorem duties_later (g : GSem nD τ sig) : ∀ k, 1 ≤ k → (rd (F := F) m ρ).duties g k = ∅ :=
  fun k hk => by dsimp only [rd]; rw [if_neg fun h => by omega]
omit [FloatOps F] in
theorem amount_eq (d : Fin 3) : (rd (F := F) m ρ).amount (kcell (c, r)) 0 d = amt r := by
  dsimp only [rd, kcell]; exact csem_injective.extend_apply _ _ _
omit [FloatOps F] in
theorem payload_eq (d : Fin 3) : (rd (F := F) m ρ).payload (kcell (c, r)) 0 d = pay m ρ r c d := by
  dsimp only [rd, kcell]; exact csem_injective.extend_apply _ _ _
omit [FloatOps F] in
theorem expect_eq : (rd (F := F) m ρ).expect (kcell (c, r)) 0 = total r := by
  unfold Schedule.expect Schedule.amountOf
  rw [duties_eq, Finset.sum_congr rfl fun d _ => amount_eq m ρ c r d, Finset.sum_const, smul_eq_mul, total]
omit [FloatOps F] in
/-- What waiting out a role's round yields. -/
theorem rest_eq : bigSep ((rd (F := F) m ρ).duties (kcell (c, r)) 0 \ ∅) (fun d => (rd (F := F) m ρ).payload (kcell (c, r)) 0 d)
    = bigSep (names r) (pay m ρ r c) := by
  rw [Finset.sdiff_empty, duties_eq]; exact bigSep_congr fun d _ => payload_eq m ρ c r d

end Sched

/-! ## What a device owes, and the order of waiting -/

/-- The increment an act makes. -/
def due (c : Dev nD) (a : Act) : CellTallies nD τ sig Unit := tallyAt (kcell (tgt c a)) () (amt (tgt c a).2)
/-- What is owed while the acts of a list are still to be done. -/
def debt (c : Dev nD) : List Act → CellTallies nD τ sig Unit
  | [] => 0
  | a :: l => debt c l + due c a

theorem due_apply (c : Dev nD) (a : Act) (ck : Dev nD × Role) :
    due c a (kcell ck) () = if tgt c a = ck then amt ck.2 else 0 := by
  unfold due; rw [tallyAt_apply]
  by_cases h : tgt c a = ck
  · rw [if_pos h, ← h]; exact if_pos ⟨rfl, rfl⟩
  · rw [if_neg h]; exact if_neg fun h' => h (kcell_injective h'.1.symm)

theorem debt_apply (c : Dev nD) (l : List Act) (ck : Dev nD × Role) :
    debt c l (kcell ck) () = (l.countP fun a => tgt c a = ck) * amt ck.2 := by
  induction l with
  | nil => rw [List.countP_nil, Nat.zero_mul]; rfl
  | cons a l ih =>
    rw [debt, Pi.add_apply, Finsupp.add_apply, ih, due_apply, List.countP_cons, Nat.add_mul]
    by_cases h : tgt c a = ck
    · rw [if_pos h, if_pos (decide_eq_true h), Nat.one_mul]
    · rw [if_neg h, if_neg (by simpa using h), Nat.zero_mul]

theorem debt_pos {c : Dev nD} {l : List Act} {g : GSem nD τ sig} {u : Unit} (h : 0 < debt c l g u) :
    ∃ a ∈ l, g = kcell (tgt c a) := by
  induction l with
  | nil => exact absurd h (Nat.lt_irrefl 0)
  | cons a l ih =>
    rw [debt, Pi.add_apply, Finsupp.add_apply] at h
    by_cases hg : g = kcell (tgt c a)
    · exact ⟨a, List.mem_cons_self, hg⟩
    · rw [show due c a g u = 0 from by unfold due; rw [tallyAt_apply]; exact if_neg fun h' => hg h'.1, Nat.add_zero] at h
      obtain ⟨b, hb, hg'⟩ := ih h
      exact ⟨b, List.mem_cons_of_mem _ hb, hg'⟩

/-- Waiting is recorded on the tensor cores only. -/
def L (g : GSem nD τ sig) : Finset Unit := if g.1.2 = .tc then {()} else ∅
/-- A wait may be waited out by a device owing only increments of greater rank. -/
def rank : Role → ℕ | .bar => 1 | .send _ => 0 | .recv _ => 2
/-- The rank of each semaphore; those of the staging copies have rank 0. -/
def lv (g : GSem nD τ sig) (_ : Unit) : ℕ := Function.extend csem rank (fun _ => 0) g.2

theorem L_of_ne (g : GSem nD τ sig) (h : g.1.2 ≠ .tc) : L g = ∅ := if_neg h
theorem L_tc (c : Dev nD) (sm : SemLoc sig) : L ((c : Thread nD τ), sm) = {()} := if_pos rfl
theorem lv_eq (ck : Dev nD × Role) (u : Unit) : lv (kcell ck) u = rank ck.2 := csem_injective.extend_apply _ _ _

omit [FloatOps F] in
/-- A device may wait at a semaphore whose rank is below that of everything it still owes. -/
theorem mayWait (c : Dev nD) (sm : SemLoc sig) (n : ℕ) (l : List Act) (hn : lv ((c : Thread nD τ), sm) () ≤ n)
    (hl : ∀ a ∈ l, n < rank (tgt c a).2) : (levAts L lv : sProp 𝕄) ⊢ MayWait (c : Thread nD τ) sm () (debt c l) :=
  MayOwe.of_cut (L := L) (lev := lv) n
    (fun p hp => by rw [Finset.mem_singleton.mp hp, L_tc]; exact Finset.mem_singleton_self _)
    (fun g u hg => by obtain ⟨a, _, rfl⟩ := debt_pos hg; exact Finset.mem_singleton_self _)
    (fun p hp => by rw [Finset.mem_singleton.mp hp]; exact hn)
    (fun g u hg => by obtain ⟨a, ha, rfl⟩ := debt_pos hg; rw [lv_eq]; exact hl a ha)

end Cert.KernelIdealRun

end
-- ==== Proof.StepsKernelIdeal.lean ====
/-
The steps of the kernel `KernelIdeal`, one statement for each kind of operation.

Each statement is about an operation at the head of a program on device `c` and says what the device must hold before
it and what it holds after. They are stated over the number of the transfer and over the role of the semaphore, so the
three signals are one statement, the three transfers are one, and the seven waits are one.
-/
module

public import proofs.«01_k».proof.Proof.ProtocolKernelIdeal
public import Idealize.ShloMosaic.Lib.Pipeline.Value
public import Idealize.ShloMosaic.Lib.VecWindow

@[expose] public section

noncomputable section

namespace Cert.KernelIdealRun

open Cert.KernelIdeal Cert.KernelIdeal.Gen Cert.Peers

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Program `p` on device `c` runs without a fault and ends with `Q`. -/
abbrev Runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (K : Dev nD × Role → ℕ)

/-- What everyone may rely on throughout: the agreement at every semaphore, registered under the names `K`, and that
    each semaphore's one round has begun. -/
def records : sProp 𝕄 :=
  iprop((bigSep Finset.univ fun ck : Dev nD × Role => cellInv ER (rd m ρ) (K ck) (kcell ck))
    ∗ bigSep Finset.univ fun ck : Dev nD × Role => reached ER (kcell ck) 0)

instance records_persistent : BI.Persistent (records m ρ K) := by unfold records; infer_instance

omit [FloatOps F] in
theorem records_inv (ck : Dev nD × Role) : records m ρ K ⊢ (cellInv ER (rd m ρ) (K ck) (kcell ck) : sProp 𝕄) :=
  (sep_mono_left (bigSep_elim (Finset.mem_univ ck))).trans (by iintro ⟨H, -⟩; iexact H)
omit [FloatOps F] in
theorem records_reached (ck : Dev nD × Role) : records m ρ K ⊢ (reached ER (kcell ck) 0 : sProp 𝕄) :=
  (sep_mono_right (bigSep_elim (Finset.mem_univ ck))).trans (by iintro ⟨-, H⟩; iexact H)

/-- Device `c` still owes the acts of `l`. -/
def owing (c : Dev nD) (l : List Act) : sProp 𝕄 := iprop(∃ W, owes (c : Thread nD τ) (debt c l) W)
/-- The right to make one increment. -/
def tok (c : Dev nD) (a : Act) : sProp 𝕄 := dutyTok ER (kcell (tgt c a)) 0 (tag a)
/-- The device's place at one of its own semaphores: before its round, and after. -/
def before (c : Dev nD) (r : Role) : sProp 𝕄 := atPos ER (kcell (c, r)) 0 ∅ 0
def past (c : Dev nD) (r : Role) : sProp 𝕄 := atPos ER (kcell (c, r)) 1 ∅ 0
/-- The promise that a role's semaphore will be raised by its whole total. -/
def credit (c : Dev nD) (r : Role) : sProp 𝕄 := cred (tallyAt (kcell (c, r)) () (total r))

section Steps
variable (c : Dev nD)

/-- The signal that tells `origin j c` that landing buffer `j` of `c` may be written. -/
theorem step_ready {α : Type} {Q : α → sProp 𝕄} (j : Fin 3) (l : List Act) {n : Dev nD} (hn : n = origin j c) {k' : ℕ} (hk : 1 = k')
    (X : S512x2048.Idx → Elt F .bf16) {k : PUnit → Prog (TpuEff nD τ sig (Elt F) Λ₀ .tc) α} :
    iprop(records m ρ K ∗ owing c (.ready j :: l) ∗ tok c (.ready j) ∗ scr j c X)
      ⊢ iprop((owing c l -∗ Runs c (k ⟨⟩) Q) -∗ Runs c (.op (.semSignal (n : Thread nD τ) barS k') k) Q) := by
  subst hn hk
  unfold owing tok
  iintro ⟨#HR, ⟨%W, HO⟩, Ht, Hs⟩ Hk
  ihave #Hi := (records_inv m ρ K (origin j c, .bar)) $$ HR
  ihave #Hr := (records_reached m ρ K (origin j c, .bar)) $$ HR
  iapply (Rounds.wp_signal 𝒱₀ ER (rd m ρ) (c : Thread nD τ) none (dst := (origin j c : Thread nD τ)) (κ := K (origin j c, .bar))
    (r := 0) (d := j) ((duties_eq m ρ (origin j c) .bar).symm ▸ Finset.mem_univ j) (amount_eq m ρ (origin j c) .bar j) () (debt c l) rfl)
    $$ [HO Ht Hs]
  · isplitr; · iexact Hi
    isplitl [HO]; · iexact HO
    isplitl [Ht]; · iexact Ht
    isplitl [Hs]
    · rw [show (rd m ρ).payload ((origin j c : Thread nD τ), .reg barS) 0 j = pay m ρ .bar (origin j c) j from
        payload_eq m ρ (origin j c) .bar j, pay_bar, peer_origin]
      iexists X; iexact Hs
    iexact Hr
  iintro HO
  iapply Hk; iexists W; iexact HO

/-- Waiting out a semaphore's round, at which point nothing of lower or equal rank may be owed. -/
theorem step_wait (r : Role) (l : List Act) (hl : ∀ a ∈ l, rank r < rank (tgt c a).2) {k' : ℕ} (hk : k' = total r)
    {α : Type} {Q : α → sProp 𝕄} {w : TpuEff nD τ sig (Elt F) Λ₀ .tc PUnit}
    (hw : ∀ P : PUnit → sProp 𝕄, wpE (defs₀ (F := F)) 𝒱₀ (c : Thread nD τ) none Set.univ w P = waitSpec (c : Thread nD τ) Set.univ (csem r) k' P)
    {k : PUnit → Prog (TpuEff nD τ sig (Elt F) Λ₀ .tc) α} :
    iprop(records m ρ K ∗ levAts L lv ∗ credit c r ∗ owing c l ∗ before c r)
      ⊢ iprop(((owing c l ∗ past c r ∗ bigSep (names r) (pay m ρ r c)) -∗ Runs c (k ⟨⟩) Q) -∗ Runs c (.op w k) Q) := by
  subst hk
  unfold owing credit before past
  iintro ⟨#HR, #Hlev, Hc, ⟨%W, HO⟩, Hat⟩ Hk
  ihave #Hi := (records_inv m ρ K (c, r)) $$ HR
  ihave #Hm := (mayWait (F := F) c (csem r) (rank r) l (lv_eq (c, r) ()).le hl) $$ Hlev
  iapply (Rounds.wp_wait_rest_token 𝒱₀ ER (rd m ρ) (c : Thread nD τ) none (κ := K (c, r)) hw (Set.mem_univ _) ()
    (O := debt c l) (W := W) (R := 0) (m := 0) (T := ∅) ((Nat.zero_add _).trans (expect_eq m ρ c r).symm)) $$ [Hc HO Hat]
  · isplitr; · iexact Hi
    isplitl [Hc]; · iexact Hc
    isplitl [HO]; · iexact HO
    isplitr; · iexact Hm
    iexact Hat
  iintro ⟨HO, Hat, -, Hp⟩
  iapply Hk
  isplitl [HO]; · iexists (insert (csem r, ()) W); iexact HO
  isplitl [Hat]; · iexact Hat
  iapply (Entails.of_eq (rest_eq m ρ c r)); iexact Hp

/-- Transfer `j`: the staged block of `c`, read through the share set aside for it, into landing buffer `j` of
    `peer j c`. -/
theorem step_send {α : Type} {Q : α → sProp 𝕄} (j : Fin 3) (l : List Act) {n : Dev nD} (hn : n = peer j c) {dM : Memref sig .tc .vmem S512x2048 .bf16} (hM : dM = scrM j)
    {sS sR : DmaSem sig} (hS : sS = sendS j) (hR : sR = recvS j)
    {hsc : (dM : Memref sig (Dev.tc n : Thread nD τ).2.kind .vmem S512x2048 .bf16).view.ref.isScScratch = false}
    {hsrc : (xM : Memref sig .tc .vmem S512x2048 .bf16).view.WordExact} {hdst : dM.view.WordExact}
    {hsem : DmaTarget.Typed .vmem (.dma sR) (.remote (Dev.tc n : Thread nD τ) dM (.dma sS) hsc)}
    (X : S512x2048.Idx → Elt F .bf16) {k : PUnit → Prog (TpuEff nD τ sig (Elt F) Λ₀ .tc) α} :
    iprop(records m ρ K ∗ xPart m ρ (lend j) c ∗ scr j (peer j c) X ∗ owing c (.land j :: l) ∗ tok c (.land j) ∗ tok c (.sent j))
      ⊢ iprop(((credit c (.send j) ∗ owing c l) -∗ Runs c (k ⟨⟩) Q)
          -∗ Runs c (.op (.enqueueDma xM (.remote (Dev.tc n : Thread nD τ) dM (.dma sS) hsc) (.dma sR) hsrc hdst hsem) k) Q) := by
  subst hn hM hS hR
  unfold xPart scr owing tok credit owns
  iintro ⟨#HR, ⟨%fs, %hfs, Hx⟩, ⟨%fd, -, Hd⟩, ⟨%W, HO⟩, Htl, Hts⟩ Hk
  ihave #Hi := (records_inv m ρ K (c, .send j)) $$ HR
  ihave #Hi' := (records_inv m ρ K (peer j c, .recv j)) $$ HR
  ihave #Hr := (records_reached m ρ K (c, .send j)) $$ HR
  ihave #Hr' := (records_reached m ρ K (peer j c, .recv j)) $$ HR
  iapply (Rounds.wp_send_pointsTo 𝒱₀ ER (rd m ρ) (c : Thread nD τ) none (c' := (peer j c : Thread nD τ)) (src := xM)
    (dst := scrM j) (sS := .dma (sendS j)) (sem := .dma (recvS j)) (κ₁ := K (c, .send j)) (κ₂ := K (peer j c, .recv j))
    (r₁ := 0) (r₂ := 0) (d₁ := 0) (d₂ := 0) (fs := fs) (fd := fd) (q := lend j)
    ((duties_eq m ρ c (.send j)).symm ▸ Finset.mem_singleton_self 0) ((duties_eq m ρ (peer j c) (.recv j)).symm ▸ Finset.mem_singleton_self 0)
    () () N (credit_scr j) (amount_eq m ρ c (.send j) 0) (amount_eq m ρ (peer j c) (.recv j) 0) (debt c l) rfl (W := W)
    (by
      show _ ⊢ (rd m ρ).payload (kcell (c, .send j)) 0 0
      rw [payload_eq, pay_send, xPart, ← hfs]; exact owns_intro _ _ _ _)
    (by
      show _ ⊢ (rd m ρ).payload (kcell (peer j c, .recv j)) 0 0
      rw [payload_eq, pay_recv, origin_peer, scr, ← hfs]
      refine Entails.trans (owns_intro _ _ _ _) (Entails.of_eq ?_)
      rw [View.read_write_univ])) $$ [Hx Hd HO Htl Hts]
  · isplitr; · iexact Hi
    isplitr; · iexact Hi'
    isplitl [Hx]; · iexact Hx
    isplitl [Hd]; · iexact Hd
    isplitl [HO]; · iexact HO
    isplitl [Hts]; · iexact Hts
    isplitr; · iexact Hr
    isplitl [Htl]; · iexact Htl
    iexact Hr'
  iintro ⟨Hc, HO⟩
  iapply Hk
  isplitl [Hc]; · rw [total_send]; iexact Hc
  iexists W; iexact HO

omit [FloatOps F] in
/-- A semaphore whose round is over is at zero. -/
theorem step_close (r : Role) : iprop(records m ρ K ∗ past c r) ⊢ (|={Set.univ}=> semVal (kcell (c, r)) 0 : sProp 𝕄) := by
  unfold past
  iintro ⟨#HR, Hat⟩
  ihave #Hi := (records_inv m ρ K (c, r)) $$ HR
  iapply (Rounds.cell_close ER (rd m ρ) (Set.mem_univ (K (c, r))) (fun h => h) (R := 1) (duties_later m ρ (kcell (c, r))))
  isplitr; · iexact Hi
  iexact Hat

/-- A load of a whole buffer. -/
theorem step_read {α : Type} {Q : α → sProp 𝕄} {s : Shape} {e : EltTy} {M : Memref sig .tc .vmem s e} {q : PosShare TreeShare}
    {X : s.Idx → Elt F e} {M' : Memref sig .tc .vmem s e} (hM : M' = M)
    {off : Fin s.rank → ℕ} {inb : ∀ a, off a + s.size a ≤ s.size a} {hl : M'.view.LoadsAt (Rect.unit off s.size inb).toLoadRect}
    {k : (s.Idx → Elt F e) → Prog (TpuEff nD τ sig (Elt F) Λ₀ .tc) α} :
    (owns (c : Thread nD τ) M q X : sProp 𝕄)
      ⊢ iprop((owns (c : Thread nD τ) M q X -∗ Runs c (k X) Q)
          -∗ Runs c (.op (.load M' (Rect.unit off s.size inb).toLoadRect hl) k) Q) := by
  subst hM
  unfold owns
  iintro ⟨%f, %hf, H⟩ Hk
  iapply (wp_load 𝒱₀ (c : Thread nD τ) none Set.univ (m := M') (View.setOn_subset_set _ _)) $$ H
  iintro H
  rw [View.readAt_full, hf]
  iapply Hk; iexists f; isplitr; · (ipureintro; exact hf)
  iexact H

end Steps

/-! ## The output, one row block at a time -/

/-- Device `c`'s columns of the result for the rows whose `x` block device `b` holds. -/
def tile (c b : Dev nD) : FVec F S512x512 .f32 := k0_pay1 (xstg m ρ b) (wstg m ρ c)

theorem row_lt (i : S2048x512.Idx) : (i (0 : Fin 2)).val < 2048 := (i (0 : Fin 2)).isLt
theorem col_lt (i : S2048x512.Idx) : (i (1 : Fin 2)).val < 512 := (i (1 : Fin 2)).isLt

set_option backward.proofsInPublic true in
/-- The row block an element of the output lies in, -/
def blockOf (i : S2048x512.Idx) : Dev nD := ⟨(i (0 : Fin 2)).val / 512, by have := row_lt i; show _ < 4; omega⟩
set_option backward.proofsInPublic true in
/-- and its place there. -/
def within (i : S2048x512.Idx) : S512x512.Idx := fun a => match a with
  | ⟨0, _⟩ => ⟨(i (0 : Fin 2)).val % 512, Nat.mod_lt _ (by decide)⟩
  | ⟨1, _⟩ => ⟨(i (1 : Fin 2)).val, col_lt i⟩

/-- Device `c`'s part of the result. -/
def outAt (c : Dev nD) : (cc0_stg2_0 : Ref sig .tc).ty.Contents (Elt F) := fun i => tile m ρ c (blockOf i) (within i)

/-- The output buffer with the row blocks of `T` finished. -/
def outDone (c : Dev nD) (T : Finset (Dev nD)) : sProp 𝕄 :=
  iprop(∃ f : Buf (Elt F) ((c : Thread nD τ).loc cc0_stg2_0), ⌜∀ i, blockOf i ∈ T → f i = outAt m ρ c i⌝
    ∗ (((c : Thread nD τ).loc cc0_stg2_0) ↦{fullShare} f))

/-- The load and the store of one row block: the store adds the block to those finished. -/
theorem step_block (c : Dev nD) {α : Type} {Q : α → sProp 𝕄} (b : Dev nD) (T : Finset (Dev nD)) {off : Fin 2 → ℕ}
    (hoff : off = ![512 * b.val, 0]) {inb : ∀ a : Fin 2, off a + S512x512.size a ≤ S2048x512.size a}
    {w : FVec F S512x512 .f32} (hw : w = tile m ρ c b)
    {hl : (oM : Memref sig .tc .vmem S2048x512 .f32).view.LoadsAt (Rect.unit (s := S2048x512) off S512x512.size inb).toLoadRect}
    {hx : ((oM : Memref sig .tc .vmem S2048x512 .f32).access (Rect.unit (s := S2048x512) off S512x512.size inb)).Stores Finset.univ} {hm}
    {k : PUnit → Prog (TpuEff nD τ sig (Elt F) Λ₀ .tc) α} :
    (outDone m ρ c T : sProp 𝕄)
      ⊢ iprop((outDone m ρ c (insert b T) -∗ Runs c (k ⟨⟩) Q)
          -∗ Runs c (.op (.load oM (Rect.unit (s := S2048x512) off S512x512.size inb).toLoadRect hl) fun _ =>
              .op (.store oM (Rect.unit (s := S2048x512) off S512x512.size inb) w Finset.univ hx hm) k) Q) := by
  subst hoff hw
  unfold outDone
  iintro ⟨%f, %hf, H⟩ Hk
  iapply (wp_load 𝒱₀ (c : Thread nD τ) none Set.univ (m := oM) (S := Finset.univ) (Finset.subset_univ _)) $$ H
  iintro H
  iapply (wp_store 𝒱₀ (c : Thread nD τ) none Set.univ (m := oM) (r := Rect.unit (s := S2048x512) (![512 * b.val, 0]) S512x512.size inb)
    (Mk := Finset.univ) (S := Finset.univ) (Finset.subset_univ _)) $$ H
  iintro H
  iapply Hk
  iexists _
  isplitr
  rotate_left
  · iexact H
  ipureintro
  intro i hi
  have hw := View.write_whole_slice_unit (Val := Elt F) cc0_stg2_0 (![512 * b.val, 0]) S512x512.size inb f (tile m ρ c b)
  refine (congrFun hw i).trans ?_
  unfold updateSlice
  have hi0 := row_lt i
  have hi1 := col_lt i
  split
  · next h =>
    have h0 := h (0 : Fin 2)
    have hb : blockOf i = b := Fin.ext (by
      show (i (0 : Fin 2)).val / 512 = b.val
      have h1 : 512 * b.val ≤ (i (0 : Fin 2)).val := h0.1
      have h2 : (i (0 : Fin 2)).val < 512 * b.val + 512 := h0.2
      omega)
    unfold outAt
    rw [hb]
    refine congrArg (tile m ρ c b) (funext fun a => ?_)
    have h1 : 512 * b.val ≤ (i (0 : Fin 2)).val := h0.1
    have h2 : (i (0 : Fin 2)).val < 512 * b.val + 512 := h0.2
    fin_cases a
    · exact Fin.ext (show (i (0 : Fin 2)).val - 512 * b.val = (i (0 : Fin 2)).val % 512 by omega)
    · exact Fin.ext (show (i (1 : Fin 2)).val - 0 = (i (1 : Fin 2)).val by omega)
  · next h =>
    refine hf i ((Finset.mem_insert.mp hi).resolve_left fun hb => h fun a => ?_)
    have hb' : (i (0 : Fin 2)).val / 512 = b.val := congrArg Fin.val hb
    fin_cases a
    · exact ⟨show 512 * b.val ≤ (i (0 : Fin 2)).val by omega, show (i (0 : Fin 2)).val < 512 * b.val + 512 by omega⟩
    · exact ⟨Nat.zero_le _, show (i (1 : Fin 2)).val < 0 + 512 by omega⟩

/-- With all four row blocks finished the buffer holds device `c`'s part of the result. -/
theorem outDone_univ (c : Dev nD) :
    (outDone m ρ c Finset.univ : sProp 𝕄) ⊢ (((c : Thread nD τ).loc cc0_stg2_0) ↦{fullShare} outAt m ρ c) := by
  unfold outDone
  iintro ⟨%f, %hf, H⟩
  have e : f = outAt m ρ c := funext fun i => hf i (Finset.mem_univ _)
  subst e
  iexact H

end Cert.KernelIdealRun

end
-- ==== Proof.BodyKernelIdeal.lean ====
/-
The kernel `KernelIdeal` run on one device, from what the launch hands it to what it leaves.

The device signals readiness three times, waits for the three peers to be ready, sends its block of `x` three times,
and computes the four row blocks of its part of the result, waiting for each landing before it is read. The steps of
`StepsKernelIdeal` are followed in program order.
-/
module

public import proofs.«01_k».proof.Proof.StepsKernelIdeal

@[expose] public section

noncomputable section

namespace Cert.KernelIdealRun

open Cert.KernelIdeal Cert.KernelIdeal.Gen Cert.Peers

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Reading families one by one -/

omit [FloatOps F] in
theorem over_three (Φ : Fin 3 → sProp 𝕄) : bigSep Finset.univ Φ = iprop(Φ 0 ∗ Φ 1 ∗ Φ 2) := bigSep_W0 Φ
omit [FloatOps F] in
theorem over_roles (Φ : Role → sProp 𝕄) : bigSep Finset.univ Φ
    = iprop(Φ .bar ∗ Φ (.send 0) ∗ Φ (.send 1) ∗ Φ (.send 2) ∗ Φ (.recv 0) ∗ Φ (.recv 1) ∗ Φ (.recv 2)) := by
  rw [bigSep_univ_eq_bigSepL roles roles_univ roles_nodup]
  simp only [roles, bigSepL_cons_cons, bigSepL_singleton]; rfl
omit [FloatOps F] in
theorem over_acts (Φ : Act → sProp 𝕄) : bigSep Finset.univ Φ
    = iprop(Φ (.ready 0) ∗ Φ (.ready 1) ∗ Φ (.ready 2) ∗ Φ (.land 0) ∗ Φ (.land 1) ∗ Φ (.land 2)
        ∗ Φ (.sent 0) ∗ Φ (.sent 1) ∗ Φ (.sent 2)) := by
  rw [bigSep_univ_eq_bigSepL acts acts_univ acts_nodup]
  simp only [acts, bigSepL_cons_cons, bigSepL_singleton]; rfl

omit [FloatOps F] in
/-- What the barrier wait brings: the landing buffers this device will write. -/
theorem got_bar (c : Dev nD) : bigSep (names .bar) (pay (F := F) m ρ .bar c)
    = iprop((∃ X, scr 0 (peer 0 c) X) ∗ (∃ X, scr 1 (peer 1 c) X) ∗ ∃ X, scr 2 (peer 2 c) X) := over_three _
omit [FloatOps F] in
/-- What a receive wait brings: the landing buffer, filled. -/
theorem got_recv (j : Fin 3) (c : Dev nD) : bigSep (names (.recv j)) (pay (F := F) m ρ (.recv j) c)
    = scr j c (xstg m ρ (origin j c)) := bigSep_singleton
omit [FloatOps F] in
/-- What a send wait brings back: the share of `x` that was lent. -/
theorem got_send (j : Fin 3) (c : Dev nD) : bigSep (names (.send j)) (pay (F := F) m ρ (.send j) c)
    = xPart m ρ (lend j) c := bigSep_singleton

omit [FloatOps F] in
theorem xPart_halves (q : PosShare TreeShare) (c : Dev nD) :
    (xPart m ρ q c : sProp 𝕄) = iprop(xPart m ρ q.left c ∗ xPart m ρ q.right c) := by
  unfold xPart
  simp only [owns_whole]
  exact BI.Entails.antisymm (pointsTo_share (PosShare.mem_left_op_right q)).1 (pointsTo_share (PosShare.mem_left_op_right q)).2
omit [FloatOps F] in
/-- The staged `x`: three shares to lend and one to keep. -/
theorem xPart_shares (c : Dev nD) : (xPart m ρ fullShare c : sProp 𝕄)
    = iprop(xPart m ρ (lend 0) c ∗ xPart m ρ (lend 1) c ∗ xPart m ρ (lend 2) c ∗ xPart m ρ keep c) := by
  rw [xPart_halves, xPart_halves m ρ fullShare.right, xPart_halves m ρ fullShare.right.right]; rfl

/-! ## The four products are one function -/

theorem pay2_eq : k0_pay2 (F := F) = k0_pay1 := by
  funext a w
  have h : shapeCast S512x2048 a shapeCasts_S512x2048_S512x2048 = a :=
    funext fun i => congrArg a (Shape.reshapeEquiv_self _ i)
  unfold k0_pay1 k0_pay2; simp only [h]
theorem pay7_eq (a : Vec F S512x2048 .bf16) (w : Vec F S2048x512 .bf16) :
    k0_pay7 (k0_pay4 a w) (k0_pay5 a w) k0_pay6 = k0_pay1 a w := by rw [← pay2_eq]; rfl
theorem pay8_eq : k0_pay8 (F := F) = k0_pay1 := by rw [← pay2_eq]; rfl

/-! ## The pipeline's data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What a device starts from, besides its landing buffers. -/
def start (c : Dev nD) : sProp 𝕄 :=
  iprop(∃ K, records m ρ K ∗ bigSep Finset.univ (before c) ∗ bigSep Finset.univ (tok c) ∗ levAts L lv
    ∗ credit c .bar ∗ bigSep Finset.univ fun j : Fin 3 => credit c (.recv j))

def Φ₀ (c : Dev nD) : sProp 𝕄 := iprop(start m ρ c ∗ bigSep Finset.univ fun j : Fin 3 => iprop(∃ X, scr j c X))
/-- What a device leaves: its landing buffers holding the other blocks of `x`, its seven semaphores at zero. -/
def Φ₁ (c : Dev nD) : sProp 𝕄 :=
  iprop((bigSep Finset.univ fun j : Fin 3 => scr j c (xstg m ρ (origin j c))) ∗ bigSep Finset.univ fun r => semVal (kcell (c, r)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ m ρ c
  q _ := fullShare
  owed t := match t with
    | ⟨0, _⟩ => debt c dues
    | ⟨_ + 1, _⟩ => debt c []

theorem before_x (c : Dev nD) (d) : (dats m ρ 0 c).before (0 : Fin 3) t₀ d = xstg m ρ c := by
  unfold Dat.before; rw [if_pos (by rfl)]; rfl
theorem before_w (c : Dev nD) (d) : (dats m ρ 0 c).before (1 : Fin 3) t₀ d = wstg m ρ c := by
  unfold Dat.before; rw [if_pos (by rfl)]; rfl

/-! ## The body -/

def bodyPre (c : Dev nD) : sProp 𝕄 :=
  iprop(Φ₀ m ρ c ∗ (dats m ρ 0 c).owesAt () t₀.castSucc
    ∗ (∃ d, owns (c : Thread nD τ) xM fullShare ((dats m ρ 0 c).before (0 : Fin 3) t₀ d))
    ∗ (∃ d, owns (c : Thread nD τ) wM fullShare ((dats m ρ 0 c).before (1 : Fin 3) t₀ d))
    ∗ (∃ d, owns (c : Thread nD τ) oM fullShare ((dats m ρ 0 c).before (2 : Fin 3) t₀ d)))

def bodyPost (c : Dev nD) : sProp 𝕄 :=
  iprop(Φ₁ m ρ c ∗ (dats m ρ 0 c).owesAt () t₀.succ
    ∗ owns (c : Thread nD τ) xM fullShare (xstg m ρ c)
    ∗ owns (c : Thread nD τ) wM fullShare (wstg m ρ c)
    ∗ owns (c : Thread nD τ) oM fullShare (outAt m ρ c))

omit [FloatOps F] in
/-- All seven semaphores of a device are at zero once their rounds are over. -/
theorem close_all (K : Dev nD × Role → ℕ) (c : Dev nD) :
    iprop(records m ρ K ∗ bigSep Finset.univ (past c)) ⊢ (|={Set.univ}=> bigSep Finset.univ fun r => semVal (kcell (c, r)) 0 : sProp 𝕄) := by
  have h : iprop(records m ρ K ∗ bigSep Finset.univ (past c))
      ⊢ (bigSep Finset.univ fun r => iprop(records m ρ K ∗ past c r) : sProp 𝕄) := by
    rw [bigSep_sep']
    exact sep_mono_left (BI.bigSep_of_persistent _ _)
  exact h.trans ((bigSep_mono fun r _ => step_close m ρ K c r).trans (bigSep_fupd _ _))

theorem out_start (c : Dev nD) (X) :
    (owns (c : Thread nD τ) oM fullShare X : sProp 𝕄) ⊢ outDone m ρ c ∅ := by
  unfold outDone owns
  simp only [Memref.view_whole, View.read_whole, View.set_whole]
  iintro ⟨%f, %hf, H⟩
  iexists f; isplitr; · (ipureintro; exact fun i hi => absurd hi (Finset.notMem_empty _))
  iexact H
theorem out_end (c : Dev nD) : (outDone m ρ c Finset.univ : sProp 𝕄) ⊢ owns (c : Thread nD τ) oM fullShare (outAt m ρ c) := by
  refine (outDone_univ m ρ c).trans ?_
  rw [owns_whole]

/-- One row block from a landing buffer: wait for the block of `x` to arrive, load it, load the weights, and write the
    product's row block. -/
theorem step_tile (K : Dev nD × Role → ℕ) (c : Dev nD) {α : Type} {Q : α → sProp 𝕄} (j : Fin 3) (T : Finset (Dev nD))
    {dM : Memref sig .tc .vmem S512x2048 .bf16} (hM : dM = scrM j) {k' : ℕ} (hk : k' = N)
    {w : TpuEff nD τ sig (Elt F) Λ₀ .tc PUnit}
    (hw : ∀ P : PUnit → sProp 𝕄, wpE (defs₀ (F := F)) 𝒱₀ (c : Thread nD τ) none Set.univ w P = waitSpec (c : Thread nD τ) Set.univ (csem (.recv j)) k' P)
    {off : Fin 2 → ℕ} (hoff : off = ![512 * (origin j c).val, 0]) {inb : ∀ a : Fin 2, off a + S512x512.size a ≤ S2048x512.size a}
    {f : Vec F S512x2048 .bf16 → Vec F S2048x512 .bf16 → FVec F S512x512 .f32} (hf : ∀ a b, f a b = k0_pay1 a b)
    {offx : Fin 2 → ℕ} {inbx : ∀ a : Fin 2, offx a + S512x2048.size a ≤ S512x2048.size a}
    {hlx : dM.view.LoadsAt (Rect.unit (s := S512x2048) offx S512x2048.size inbx).toLoadRect}
    {offw : Fin 2 → ℕ} {inbw : ∀ a : Fin 2, offw a + S2048x512.size a ≤ S2048x512.size a}
    {hlw : (wM : Memref sig .tc .vmem S2048x512 .bf16).view.LoadsAt (Rect.unit (s := S2048x512) offw S2048x512.size inbw).toLoadRect}
    {hl : (oM : Memref sig .tc .vmem S2048x512 .f32).view.LoadsAt (Rect.unit (s := S2048x512) off S512x512.size inb).toLoadRect}
    {hx : ((oM : Memref sig .tc .vmem S2048x512 .f32).access (Rect.unit (s := S2048x512) off S512x512.size inb)).Stores Finset.univ} {hm}
    {k : PUnit → Prog (TpuEff nD τ sig (Elt F) Λ₀ .tc) α} :
    iprop(records m ρ K ∗ levAts L lv ∗ credit c (.recv j) ∗ owing c [] ∗ before c (.recv j)
        ∗ owns (c : Thread nD τ) wM fullShare (wstg m ρ c) ∗ outDone m ρ c T)
      ⊢ iprop(((owing c [] ∗ past c (.recv j) ∗ scr j c (xstg m ρ (origin j c))
            ∗ owns (c : Thread nD τ) wM fullShare (wstg m ρ c) ∗ outDone m ρ c (insert (origin j c) T)) -∗ Runs c (k ⟨⟩) Q)
          -∗ Runs c (.op w fun _ =>
              .op (.load dM (Rect.unit (s := S512x2048) offx S512x2048.size inbx).toLoadRect hlx) fun a =>
              .op (.load wM (Rect.unit (s := S2048x512) offw S2048x512.size inbw).toLoadRect hlw) fun b =>
              .op (.load oM (Rect.unit (s := S2048x512) off S512x512.size inb).toLoadRect hl) fun _ =>
              .op (.store oM (Rect.unit (s := S2048x512) off S512x512.size inb) (f a b) Finset.univ hx hm) k) Q) := by
  subst hk
  iintro ⟨#HR, #Hlev, Cr, HO, Ar, Hw, Ho⟩ Hk
  iapply (step_wait m ρ K c (.recv j) _ (fun a h => absurd h List.not_mem_nil) (total_recv j).symm hw) $$ [Cr HO Ar]
  · isplitr; · iexact HR
    isplitr; · iexact Hlev
    isplitl [Cr]; · iexact Cr
    isplitl [HO] <;> iassumption
  iintro ⟨HO, Ar, Hp⟩
  ihave S := (Entails.of_eq (got_recv m ρ j c)) $$ Hp
  unfold scr
  iapply (step_read c (M := scrM j) hM) $$ S
  iintro S
  iapply (step_read c rfl) $$ Hw
  iintro Hw
  iapply (step_block m ρ c (origin j c) _ hoff (hf _ _)) $$ Ho
  iintro Ho
  iapply Hk
  isplitl [HO]; · iexact HO
  isplitl [Ar]; · iexact Ar
  isplitl [S]; · iexact S
  isplitl [Hw] <;> iassumption

set_option maxHeartbeats 1600000 in
/-- The body, one step per operation in program order. -/
theorem sound_body (c : Dev nD) :
    (bodyPre m ρ c : sProp 𝕄) ⊢ wp frame (wpE (defs₀ (F := F)) 𝒱₀ c none) Set.univ
      (cc0_body xM (Memref.isWhole_whole _) wM (Memref.isWhole_whole _) oM (Memref.isWhole_whole _)
        (Memref.whole cc0_scratch0) (Memref.isWhole_whole _) (Memref.whole cc0_scratch1) (Memref.isWhole_whole _)
        (Memref.whole cc0_scratch2) (Memref.isWhole_whole _) cc0_scratch3 cc0_scratch4) (fun _ => bodyPost m ρ c) := by
  simp only [cc0_body_eq_skeleton]; unfold cc0_body_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, wp_deviceId]
  unfold bodyPre Φ₀ start Dat.owesAt Pipeline.owesWithin
  simp only [over_three, over_roles, over_acts, before_x, before_w]
  iintro ⟨⟨⟨%K, #HR, ⟨Ab, As0, As1, As2, Ar0, Ar1, Ar2⟩, ⟨Ty0, Ty1, Ty2, Tl0, Tl1, Tl2, Ts0, Ts1, Ts2⟩, #Hlev, Cb, Cr0, Cr1, Cr2⟩,
    ⟨%X0, S0⟩, ⟨%X1, S1⟩, ⟨%X2, S2⟩⟩, ⟨%W, %hW, HO⟩, ⟨%d0, Hx⟩, ⟨%d1, Hw⟩, ⟨%d2, Ho⟩⟩
  ihave HO : owing c dues $$ [HO]
  · unfold owing; iexists W; iexact HO
  ihave Ho := (out_start m ρ c _) $$ Ho
  ihave Hx := (show (owns (c : Thread nD τ) xM fullShare (xstg m ρ c) : sProp 𝕄) ⊢ _ from Entails.of_eq (xPart_shares m ρ c)) $$ Hx
  icases Hx with ⟨L0, L1, L2, Hx⟩
  -- the three readiness signals
  unfold dues
  iapply (step_ready m ρ K c 0 _ (Fin.ext (k0_dev1_eq c)) rfl X0) $$ [HO Ty0 S0]
  · isplitr; · iexact HR
    isplitl [HO]; · iexact HO
    isplitl [Ty0] <;> iassumption
  iintro HO
  iapply (step_ready m ρ K c 1 _ (Fin.ext (k0_dev2_eq c)) rfl X1) $$ [HO Ty1 S1]
  · isplitr; · iexact HR
    isplitl [HO]; · iexact HO
    isplitl [Ty1] <;> iassumption
  iintro HO
  iapply (step_ready m ρ K c 2 _ (Fin.ext (k0_dev3_eq c)) rfl X2) $$ [HO Ty2 S2]
  · isplitr; · iexact HR
    isplitl [HO]; · iexact HO
    isplitl [Ty2] <;> iassumption
  iintro HO
  -- the peers are ready: their landing buffers
  iapply (step_wait m ρ K c .bar [.land 0, .land 1, .land 2] (by simp [tgt, rank]) rfl (wpE_semWait_eq 𝒱₀ (c : Thread nD τ) none Set.univ)) $$ [Cb HO Ab]
  · isplitr; · iexact HR
    isplitr; · iexact Hlev
    isplitl [Cb]; · iexact Cb
    isplitl [HO] <;> iassumption
  iintro ⟨HO, Ab, Hp⟩
  ihave Hp := (Entails.of_eq (got_bar m ρ c)) $$ Hp
  icases Hp with ⟨⟨%Y0, D0⟩, ⟨%Y1, D1⟩, ⟨%Y2, D2⟩⟩
  -- the three transfers
  iapply (step_send m ρ K c 0 _ (Fin.ext (k0_dev4_eq c)) rfl rfl rfl Y0) $$ [L0 D0 HO Tl0 Ts0]
  · isplitr; · iexact HR
    isplitl [L0]; · iexact L0
    isplitl [D0]; · iexact D0
    isplitl [HO]; · iexact HO
    isplitl [Tl0] <;> iassumption
  iintro ⟨Cs0, HO⟩
  iapply (step_send m ρ K c 1 _ (Fin.ext (k0_dev5_eq c)) rfl rfl rfl Y1) $$ [L1 D1 HO Tl1 Ts1]
  · isplitr; · iexact HR
    isplitl [L1]; · iexact L1
    isplitl [D1]; · iexact D1
    isplitl [HO]; · iexact HO
    isplitl [Tl1] <;> iassumption
  iintro ⟨Cs1, HO⟩
  iapply (step_send m ρ K c 2 _ (Fin.ext (k0_dev6_eq c)) rfl rfl rfl Y2) $$ [L2 D2 HO Tl2 Ts2]
  · isplitr; · iexact HR
    isplitl [L2]; · iexact L2
    isplitl [D2]; · iexact D2
    isplitl [HO]; · iexact HO
    isplitl [Tl2] <;> iassumption
  iintro ⟨Cs2, HO⟩
  -- the device's own row block
  unfold xPart
  iapply (step_read c rfl) $$ Hx
  iintro Hx
  iapply (step_read c rfl) $$ Hw
  iintro Hw
  iapply (step_block m ρ c c _ (k0_off1_eq c) rfl) $$ Ho
  iintro Ho
  -- the row blocks of the landing buffers
  iapply (step_tile m ρ K c 0 _ rfl (credit_scr 0) (wpE_waitDma2_eq 𝒱₀ (c : Thread nD τ) none Set.univ) (k0_off2_eq c 2)
    (f := k0_pay2) (fun _ _ => congrFun (congrFun pay2_eq _) _)) $$ [Cr0 HO Ar0 Hw Ho]
  · isplitr; · iexact HR
    isplitr; · iexact Hlev
    isplitl [Cr0]; · iexact Cr0
    isplitl [HO]; · iexact HO
    isplitl [Ar0]; · iexact Ar0
    isplitl [Hw] <;> iassumption
  iintro ⟨HO, Ar0, S0, Hw, Ho⟩
  iapply (step_tile m ρ K c 1 _ rfl (credit_scr 1) (wpE_waitDma2_eq 𝒱₀ (c : Thread nD τ) none Set.univ) (k0_off2_eq c 0)
    (f := fun a b => k0_pay7 (k0_pay4 a b) (k0_pay5 a b) k0_pay6) (pay7_eq)) $$ [Cr1 HO Ar1 Hw Ho]
  · isplitr; · iexact HR
    isplitr; · iexact Hlev
    isplitl [Cr1]; · iexact Cr1
    isplitl [HO]; · iexact HO
    isplitl [Ar1]; · iexact Ar1
    isplitl [Hw] <;> iassumption
  iintro ⟨HO, Ar1, S1, Hw, Ho⟩
  iapply (step_tile m ρ K c 2 _ rfl (credit_scr 2) (wpE_waitDma2_eq 𝒱₀ (c : Thread nD τ) none Set.univ) (k0_off2_eq c 1)
    (f := k0_pay8) (fun _ _ => congrFun (congrFun pay8_eq _) _)) $$ [Cr2 HO Ar2 Hw Ho]
  · isplitr; · iexact HR
    isplitr; · iexact Hlev
    isplitl [Cr2]; · iexact Cr2
    isplitl [HO]; · iexact HO
    isplitl [Ar2]; · iexact Ar2
    isplitl [Hw] <;> iassumption
  iintro ⟨HO, Ar2, S2, Hw, Ho⟩
  -- the transfers have finished reading the staged `x`
  iapply (step_wait m ρ K c (.send 0) _ (fun a h => absurd h List.not_mem_nil) (credit_x.trans (total_send 0).symm)
    (wpE_waitDma2_eq 𝒱₀ (c : Thread nD τ) none Set.univ)) $$ [Cs0 HO As0]
  · isplitr; · iexact HR
    isplitr; · iexact Hlev
    isplitl [Cs0]; · iexact Cs0
    isplitl [HO] <;> iassumption
  iintro ⟨HO, As0, Hp⟩
  ihave L0 := (Entails.of_eq (got_send m ρ 0 c)) $$ Hp
  iapply (step_wait m ρ K c (.send 1) _ (fun a h => absurd h List.not_mem_nil) (credit_x.trans (total_send 1).symm)
    (wpE_waitDma2_eq 𝒱₀ (c : Thread nD τ) none Set.univ)) $$ [Cs1 HO As1]
  · isplitr; · iexact HR
    isplitr; · iexact Hlev
    isplitl [Cs1]; · iexact Cs1
    isplitl [HO] <;> iassumption
  iintro ⟨HO, As1, Hp⟩
  ihave L1 := (Entails.of_eq (got_send m ρ 1 c)) $$ Hp
  iapply (step_wait m ρ K c (.send 2) _ (fun a h => absurd h List.not_mem_nil) (credit_x.trans (total_send 2).symm)
    (wpE_waitDma2_eq 𝒱₀ (c : Thread nD τ) none Set.univ)) $$ [Cs2 HO As2]
  · isplitr; · iexact HR
    isplitr; · iexact Hlev
    isplitl [Cs2]; · iexact Cs2
    isplitl [HO] <;> iassumption
  iintro ⟨HO, As2, Hp⟩
  ihave L2 := (Entails.of_eq (got_send m ρ 2 c)) $$ Hp
  -- everything is back
  imod (close_all m ρ K c) $$ [Ab As0 As1 As2 Ar0 Ar1 Ar2] with Hz
  · isplitr; · iexact HR
    rw [over_roles]
    isplitl [Ab]; · iexact Ab
    isplitl [As0]; · iexact As0
    isplitl [As1]; · iexact As1
    isplitl [As2]; · iexact As2
    isplitl [Ar0]; · iexact Ar0
    isplitl [Ar1] <;> iassumption
  rw [wp_ret]; imodintro
  unfold bodyPost Φ₁ Dat.owesAt Pipeline.owesWithin owing
  isplitl [S0 S1 S2 Hz]
  · isplitl [S0 S1 S2]
    · rw [over_three]
      isplitl [S0]; · iexact S0
      isplitl [S1] <;> iassumption
    iexact Hz
  isplitl [HO]
  · icases HO with ⟨%W', HO⟩
    iexists W'; isplitr; · (ipureintro; exact fun _ _ => Or.inl trivial)
    iexact HO
  isplitl [L0 L1 L2 Hx]
  · rw [show (owns (c : Thread nD τ) xM fullShare (xstg m ρ c) : sProp 𝕄) = _ from xPart_shares m ρ c]
    unfold xPart
    isplitl [L0]; · iexact L0
    isplitl [L1]; · iexact L1
    isplitl [L2]; · iexact L2
    iexact Hx
  isplitl [Hw]; · iexact Hw
  rw [blocks_cover]
  iapply (out_end m ρ c); iexact Ho

theorem body_obligation (c : Dev nD) : BodyObligation (dats (F := F) m ρ 0 c) (defs₀ (F := F)) 𝒱₀ () Set.univ := fun t => by
  rw [fin_N t]
  rw [bigSep_W0, bigSep_W0]
  exact sound_body m ρ c

end Cert.KernelIdealRun

end
-- ==== Proof.LaunchKernelIdeal.lean ====
/-
The four devices running `KernelIdeal` together: setting up the agreement, and the run of the whole program.

The rights to make an increment are dealt straight to the device that makes it, the agreement at every semaphore is
registered for all devices at once, and what is promised at a semaphore is the sum of what the devices owe there.
-/
module

public import proofs.«01_k».proof.Proof.BodyKernelIdeal
public import Idealize.ShloMosaic.Lib.Pipeline.CollectiveSegs
public import Idealize.ShloMosaic.Lib.Quiescent

@[expose] public section

noncomputable section

namespace Cert.KernelIdealRun

open Cert.KernelIdeal Cert.KernelIdeal.Gen Cert.Peers

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Semaphores at the start -/

/-- The kernel's own semaphores: the three send and the three receive semaphores. -/
abbrev osem : Fin 3 ⊕ Fin 3 → SemLoc sig := Sum.elim (fun j => .dma (sendS j)) (fun j => .dma (recvS j))
theorem ownSemFacts : Pipeline.OwnSemFacts cfg0.spec osem := by decide

/-- A device's own semaphores at zero. -/
abbrev ownZero (c : Dev nD) : sProp 𝕄 :=
  Pipeline.ownSems0 (Ix := Unit) (Name := ℕ) (U := UU) (Lvl := ℕ) (Val := Elt F) (τ := τ) osem c

omit [FloatOps F] in
/-- Together with the barrier, the one semaphore that outlives the kernel, they are the seven of the agreement. -/
theorem zero_eq (c : Dev nD) :
    (iprop(unscopedSems0 c ∗ ownZero c) : sProp 𝕄) = bigSep Finset.univ fun r => semVal (kcell (c, r)) 0 := by
  unfold unscopedSems0 ownZero
  rw [Pipeline.ownSems0_eq_of_list c osem [.inl 0, .inl 1, .inl 2, .inr 0, .inr 1, .inr 2] (by decide) (by decide),
    bigSep_eq_bigSepL_of_eq [SemLoc.reg barS] (by decide) (by decide), over_roles]
  rfl

/-! ## Funding and registering the agreement -/

def agreed : Finset (GSem nD τ sig) := Finset.univ.map ⟨kcell, kcell_injective⟩
/-- The right to make increment `a` of a device, as funded. -/
def right (ca : Dev nD × Act) : GSem nD τ sig × ℕ × Fin 3 := (kcell (tgt ca.1 ca.2), 0, tag ca.2)
theorem right_injective : Function.Injective right := fun x y h =>
  tgt_tag_injective (Prod.ext (kcell_injective (congrArg Prod.fst h)) (congrArg (fun z : GSem nD τ sig × ℕ × Fin 3 => z.2.2) h))
def rights : Finset (GSem nD τ sig × ℕ × Fin 3) := Finset.univ.map ⟨right, right_injective⟩

def u₀ : UU := (initOf (Pipeline.cells cfgs cellOf_inj) (Pipeline.launchToks cfgs cellOf_inj), initOf agreed rights)

/-- What funding gives one device: the state of its semaphores' rounds, its place at each, and its rights. -/
def G (c : Dev nD) : sProp 𝕄 :=
  iprop((bigSep Finset.univ fun r => roundState ER (rd m ρ) (kcell (c, r)) 0)
    ∗ (bigSep Finset.univ fun r => reached ER (kcell (c, r)) 0) ∗ bigSep Finset.univ (before c) ∗ bigSep Finset.univ (tok c))
/-- What is left of it once the agreement is registered. -/
def G' (c : Dev nD) : sProp 𝕄 := iprop(∃ K, records m ρ K ∗ bigSep Finset.univ (before c) ∗ bigSep Finset.univ (tok c))

omit [FloatOps F] in
theorem by_device (Φ : GSem nD τ sig → sProp 𝕄) :
    bigSep agreed Φ = bigSep Finset.univ fun c : Dev nD => bigSep Finset.univ fun r : Role => Φ (kcell (c, r)) := by
  unfold agreed; rw [bigSep_map, bigSep_univ_prod]; rfl
omit [FloatOps F] in
theorem rights_by_device :
    bigSep rights (fun x => (dutyTok ER x.1 x.2.1 x.2.2 : sProp 𝕄)) = bigSep Finset.univ fun c : Dev nD => bigSep Finset.univ (tok c) := by
  unfold rights; rw [bigSep_map, bigSep_univ_prod]; rfl

omit [FloatOps F] in
theorem fund_all : BI.own (ER (initOf agreed rights)) ⊢ (|==> bigSep Finset.univ (G m ρ) : sProp 𝕄) := by
  have h : iprop(bigSep agreed (fun g => roundState ER (rd m ρ) g 0) ∗ bigSep agreed (fun g => reached ER g 0)
      ∗ bigSep agreed (fun g => atPos ER g 0 ∅ 0) ∗ bigSep rights fun x => (dutyTok ER x.1 x.2.1 x.2.2 : sProp 𝕄))
      ⊢ (bigSep Finset.univ (G m ρ) : sProp 𝕄) := by
    rw [by_device, by_device, by_device, rights_by_device, ← bigSep_sep', ← bigSep_sep', ← bigSep_sep']
    exact BI.Entails.refl _
  exact (Rounds.fund ER (rd m ρ) agreed rights).trans (BI.bupd_mono h)

omit [FloatOps F] in
/-- One device's semaphores registered. -/
theorem register (c : Dev nD) : iprop(ownZero c ∗ unscopedSems0 c ∗ G m ρ c)
    ⊢ (|={Set.univ}=> iprop((bigSep Finset.univ fun r => iprop(∃ κ : ℕ, cellInv ER (rd m ρ) κ (kcell (c, r))))
        ∗ (bigSep Finset.univ fun r => reached ER (kcell (c, r)) 0) ∗ bigSep Finset.univ (before c) ∗ bigSep Finset.univ (tok c)) : sProp 𝕄) := by
  unfold G
  iintro ⟨Ho, Hu, Hst, Hrest⟩
  imod (show iprop((unscopedSems0 c ∗ ownZero c) ∗ bigSep Finset.univ fun r => roundState ER (rd m ρ) (kcell (c, r)) 0)
      ⊢ (|={Set.univ}=> bigSep Finset.univ fun r => iprop(∃ κ : ℕ, cellInv ER (rd m ρ) κ (kcell (c, r))) : sProp 𝕄) from by
    rw [zero_eq, ← bigSep_sep']
    exact (bigSep_mono fun r _ => (Rounds.body_intro ER (rd m ρ) (kcell (c, r))).trans inv_alloc).trans (bigSep_fupd _ _)) $$ [Ho Hu Hst] with Hi
  · isplitr [Hst]
    · isplitl [Hu] <;> iassumption
    iexact Hst
  imodintro
  isplitl [Hi] <;> iassumption

omit [FloatOps F] in
theorem named (K : Dev nD × Role → ℕ) (c : Dev nD) :
    iprop(records m ρ K ∗ bigSep Finset.univ (before c) ∗ bigSep Finset.univ (tok c)) ⊢ (G' m ρ c : sProp 𝕄) := by
  unfold G'
  iintro H; iexists K; iexact H

omit [FloatOps F] in
/-- The registrations of all devices gathered under one naming, and everyone given them. -/
theorem gather : (bigSep Finset.univ fun c : Dev nD => iprop((bigSep Finset.univ fun r => iprop(∃ κ : ℕ, cellInv ER (rd m ρ) κ (kcell (c, r))))
        ∗ (bigSep Finset.univ fun r => reached ER (kcell (c, r)) 0) ∗ bigSep Finset.univ (before c) ∗ bigSep Finset.univ (tok c)) : sProp 𝕄)
      ⊢ bigSep Finset.univ (G' m ρ) := by
  rw [bigSep_sep', bigSep_sep', ← bigSep_univ_prod (fun ck : Dev nD × Role => iprop(∃ κ : ℕ, cellInv ER (rd m ρ) κ (kcell ck))),
    ← bigSep_univ_prod (fun ck : Dev nD × Role => (reached ER (kcell ck) 0 : sProp 𝕄))]
  iintro ⟨HI, #HR, Hrest⟩
  ihave HK := (BI.bigSep_exists_pi Finset.univ (fun (ck : Dev nD × Role) (κ : ℕ) => (cellInv ER (rd m ρ) κ (kcell ck) : sProp 𝕄))) $$ HI
  icases HK with ⟨%K, #HI⟩
  have h : iprop(records m ρ K ∗ bigSep Finset.univ fun c : Dev nD => iprop(bigSep Finset.univ (before c) ∗ bigSep Finset.univ (tok c)))
      ⊢ (bigSep Finset.univ (G' m ρ) : sProp 𝕄) := by
    refine (sep_mono_left (BI.bigSep_of_persistent (Finset.univ : Finset (Dev nD)) (records m ρ K))).trans ?_
    rw [← bigSep_sep']
    exact bigSep_mono fun c _ => named m ρ K c
  iapply h
  isplitr
  · unfold records; isplitr; · iexact HI
    iexact HR
  iexact Hrest

omit [FloatOps F] in
theorem set_up : (bigSep Finset.univ fun c => iprop(ownZero c ∗ unscopedSems0 c ∗ G m ρ c) : sProp 𝕄)
    ⊢ |={Set.univ}=> bigSep Finset.univ (G' m ρ) :=
  ((bigSep_mono fun c _ => register m ρ c).trans (bigSep_fupd _ _)).trans (BI.fupd_mono (gather m ρ))

/-! ## What is promised at the start -/

abbrev O₀ (c : Dev nD) : CellTallies nD τ sig Unit := debt c dues

/-- Where the increments owed by all devices together make up a role's total, that total is promised. -/
theorem promised (c : Dev nD) (r : Role) (h : (∑ d : Dev nD, dues.countP fun a => tgt d a = (c, r)) = (names r).card) :
    tallyOn (kcell (c, r)) (launchCredit (Pipeline.owing O₀) 0 (kcell (c, r))) = (tallyAt (kcell (c, r)) () (total r) : CellTallies nD τ sig Unit) := by
  unfold tallyAt; refine congrArg _ (Finsupp.ext fun u => ?_); cases u
  rw [Pipeline.launchCredit_owing, Finsupp.single_eq_same, Finset.sum_congr rfl fun d _ => debt_apply d dues (c, r), ← Finset.sum_mul, h, total]

omit [FloatOps F] in
theorem first_and_rest (A B C D E : sProp 𝕄) : iprop(A ∗ B ∗ C ∗ D ∗ E) ⊢ iprop(A ∗ E) := by
  iintro ⟨HA, -, -, -, HE⟩
  isplitl [HA] <;> iassumption

omit [FloatOps F] in
theorem promises (c : Dev nD) : (Pipeline.launchCred O₀ c : sProp 𝕄)
    ⊢ iprop(credit c .bar ∗ bigSep Finset.univ fun j : Fin 3 => credit c (.recv j)) := by
  unfold Pipeline.launchCred
  refine (bigSep_subset (Finset.subset_univ (Finset.univ.image csem))).trans ?_
  rw [bigSep_image_of_injOn csem_injective.injOn, over_roles, over_three]
  have hb := promised c .bar (dues_bar c)
  have hr := fun j => promised c (.recv j) (dues_recv j c)
  unfold credit
  rw [← hb, ← hr 0, ← hr 1, ← hr 2]
  exact first_and_rest _ _ _ _ _

/-! ## The run -/

theorem share_eq (c : Dev nD) (w : Fin cfg0.W) : (dats m ρ 0 c).share w = fullShare := by unfold Dat.share; split <;> rfl

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold start G'
  iintro ⟨-, Hlev, Hc, -, ⟨%K, HR, Hb, Ht⟩⟩
  ihave Hc := (promises (F := F) c) $$ Hc
  imodintro
  isplitl
  · iexists K
    isplitl [HR]; · iexact HR
    isplitl [Hb]; · iexact Hb
    isplitl [Ht]; · iexact Ht
    isplitl [Hlev]; · iexact Hlev
    iexact Hc
  iempintro

omit [FloatOps F] in
/-- The landing buffers, whatever they hold. -/
theorem landing (c : Dev nD) : (Pipeline.scopedRest cfg0.spec c : sProp 𝕄) = bigSep Finset.univ fun j : Fin 3 => iprop(∃ X, scr j c X) := by
  rw [scopedRest0_eq, over_three]
  unfold scr scrM
  simp only [owns_whole]; rfl

omit [FloatOps F] in
theorem scr_some (j : Fin 3) (c : Dev nD) (X) : (scr j c X : sProp 𝕄) ⊢ iprop(∃ X, scr j c X) := by
  iintro H; iexists X; iexact H

theorem phi_start (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, landing]
  unfold Φ₀
  iintro ⟨Hs, -, Hr⟩
  isplitl [Hs] <;> iassumption

theorem phi_end (c : Dev nD) :
    (dats m ρ 0 c).Φ (Fin.last cfg0.N) ⊢ iprop(unscopedSems0 c ∗ ownZero c ∗ Pipeline.scopedRest cfg0.spec c) := by
  rw [show (dats m ρ 0 c).Φ (Fin.last cfg0.N) = Φ₁ m ρ c from rfl, landing]
  unfold Φ₁
  rw [← zero_eq]
  iintro ⟨Hr, Hu, Ho⟩
  isplitl [Hu]; · iexact Hu
  isplitl [Ho]; · iexact Ho
  iapply (show (bigSep Finset.univ fun j : Fin 3 => scr j c (xstg m ρ (origin j c)) : sProp 𝕄) ⊢ bigSep Finset.univ fun j : Fin 3 => iprop(∃ X, scr j c X) from
    bigSep_mono fun j _ => scr_some j c _)
  iexact Hr

/-- No semaphore of the agreement is a staging copy's. -/
theorem stage_apart (w : Fin (cfgs 0).W) (s : Fin ((cfgs 0).win w).nbuf) : ¬∃ r, csem r = .dma (((cfgs 0).win w).sem s) := by
  fin_cases w <;> fin_cases s <;> decide

theorem waits (c : Dev nD) : (levAts L lv : sProp 𝕄) ⊢ Pipeline.cellsWaits cfgs (dats m ρ) () 0 c :=
  Pipeline.cellsWaits_intro cfgs (dats m ρ) () 0 c fun w s t => by
    have h0 : lv ((c : Thread nD τ), .dma (((cfgs 0).win w).sem s)) () ≤ 0 :=
      (Function.extend_apply' _ _ _ (stage_apart w s)).le
    rcases t with ⟨_ | _, ht⟩
    · exact mayWait c _ 0 dues h0 (by simp [dues, tgt, rank])
    · exact mayWait c _ 0 [] h0 (fun a h => absurd h List.not_mem_nil)

/-- What window `w`'s array holds on device `c` when the program ends. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters the four devices run to the end, every array ends as computed and every counter
    at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0)
    (hstage := stage_whole0) (hshare := share_eq m ρ) (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := set_up m ρ)
    (hA := fun _ _ => rfl) (hpf := fun _ k => k.elim0)
    (X := start m ρ) (Y := fun c => unscopedSems0 c) (Z := fun _ => iprop(emp))
    (hX := start_intro m ρ) (hin := phi_start m ρ) (hout := phi_end m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays at the end -/

/-- The `x` array holds what it held, -/
theorem final_x (c : Dev nD) : finalA m ρ c (0 : Fin 3) = m ((c : Thread nD τ).loc main_arg0) :=
  (dats (F := F) m ρ 0 c).arrAt_in (0 : Fin 3) rfl _
/-- and so do the weights; -/
theorem final_w (c : Dev nD) : finalA m ρ c (1 : Fin 3) = m ((c : Thread nD τ).loc main_arg1) :=
  (dats (F := F) m ρ 0 c).arrAt_in (1 : Fin 3) rfl _

theorem corner_x : (fun a => (win0_0.index (0 : Fin 1)) a * main_arg0.ty.shape.size a) = fun _ => 0 :=
  funext fun a => by fin_cases a <;> decide
theorem corner_w : (fun a => (win0_1.index (0 : Fin 1)) a * main_arg1.ty.shape.size a) = fun _ => 0 :=
  funext fun a => by fin_cases a <;> decide
theorem corner_o : (fun a => (win0_2.index (0 : Fin 1)) a * main_v1.ty.shape.size a) = fun _ => 0 :=
  funext fun a => by fin_cases a <;> decide

/-- the staged blocks are whole arrays, -/
theorem xstg_eq (c : Dev nD) : xstg m ρ c = m ((c : Thread nD τ).loc main_arg0) :=
  Memref.read_access_unit_zero (Elt F) main_arg0 corner_x (fun a => by fin_cases a <;> decide) _
theorem wstg_eq (c : Dev nD) : wstg m ρ c = m ((c : Thread nD τ).loc main_arg1) :=
  Memref.read_access_unit_zero (Elt F) main_arg1 corner_w (fun a => by fin_cases a <;> decide) _
/-- and the result array holds the device's part of the result. -/
theorem final_o (c : Dev nD) : finalA m ρ c (2 : Fin 3) = outAt m ρ c := by
  have h : (win0_2.blk (0 : Fin 1)).view.read (Elt F) (finalA m ρ c (2 : Fin 3)) = outAt m ρ c := by
    unfold finalA
    rw [show cfg0.N = ((0 : Fin 1) : Fin cfg0.N).val + 1 from rfl, (dats m ρ 0 c).arrAt_succ (2 : Fin 3) (0 : Fin 1),
      show (cfg0.win (2 : Fin 3)).flush (0 : Fin 1) = true from by decide, if_pos rfl]
    exact View.read_write_univ _ _
  exact (Memref.read_access_unit_zero (Elt F) main_v1 corner_o (fun a => by fin_cases a <;> decide) _).symm.trans h

end Cert.KernelIdealRun

end
-- ==== Proof.Value.lean ====
/-
What the four devices compute is what the reference computes, over the extended reals.

Both sides are read at one entry. There each is the same function, `gelu`, of the same inner product: the kernel takes a
row of the row block it received and a column of its own block of `w`, the reference takes that row and that column of
the whole arrays. The two cubes are grouped differently, which associativity of the product undoes.
-/
module

public import proofs.«01_k».proof.Proof.LaunchKernelIdeal
public import proofs.«01_k».proof.Proof.Gen.ReferenceIdeal.Run
public import Idealize.ShloMosaic.Lib.Pointwise
public import Idealize.ShloMosaic.Lib.Layout

@[expose] public section

set_option maxRecDepth 16384

noncomputable section

namespace Cert.Value

open Idealize.ShloMosaic Idealize.ShloMosaic.TcCoe Idealize.SL.Sem

/-- The activation at one extended real, with the cube grouped as the kernel groups it. -/
def gelu (y : EReal) : EReal :=
  Ideal.ofBits .f32 0x3F000000#32 * y
    * (Ideal.ofBits .f32 0x3F800000#32
        + Ideal.tanh (Ideal.ofBits .f32 0x3F4C422A#32 * (y + Ideal.ofBits .f32 0x3D372713#32 * y * y * y)))

/-- The kernel's tile at an entry: `gelu` of the inner product of a row of the received block and a column of `w`'s. -/
theorem tile_at (x : FVec Ideal Cert.KernelIdeal.S512x2048 .bf16) (w : FVec Ideal Cert.KernelIdeal.S2048x512 .bf16)
    (j : Cert.KernelIdeal.S512x512.Idx) :
    Cert.KernelIdeal.Gen.k0_pay1 (F := Ideal) x w j = gelu (∑ k : Fin 2048, x (ix2 (j 0) k) * w (ix2 k (j 1))) := by
  pointwise [Cert.KernelIdeal.Gen.k0_pay1, gelu]

section Reference

open Cert.ReferenceIdeal Cert.ReferenceIdeal.Gen

/-- The product of the whole arrays, rounded to the narrow format and widened again. -/
def product (X W : FVec Ideal S2048x2048 .bf16) : FVec Ideal S2048x2048 .f32 :=
  extf .f32 (truncf .bf16 (Host.dotGeneral dot_S2048x2048_S2048x2048_S2048x2048_1_0_0_1_n_n none X W) bitsLt_bf16_f32)
    bitsLt_bf16_f32

/-- One number at every entry of an array as large as the result. -/
def everywhere (b : BitVec 32) : FVec Ideal S2048x2048 .f32 :=
  broadcastInDim S2048x2048 ![] bcast_S_S2048x2048 (constant S_ .f32 b)

/-- The reference's activation of a whole array. -/
def activate (y : FVec Ideal S2048x2048 .f32) : FVec Ideal S2048x2048 .f32 :=
  mulf (mulf (everywhere 0x3F000000#32) y)
    (addf (everywhere 0x3F800000#32)
      (Host.tanh (mulf (everywhere 0x3F4C422A#32) (addf y (mulf (everywhere 0x3D372713#32) (mulf (mulf y y) y))))))

/-- What the reference leaves in its result, of its two arguments. -/
def result (X W : FVec Ideal S2048x2048 .bf16) : FVec Ideal S2048x2048 .f32 := activate (product X W)

/-- The reference's product at an entry: over the extended reals the two changes of format change nothing. -/
theorem product_at (X W : FVec Ideal S2048x2048 .bf16) (j : S2048x2048.Idx) :
    product X W j = ∑ k : Fin 2048, X (ix2 (j 0) k) * W (ix2 k (j 1)) := by
  pointwise [product]

/-- The reference's activation at an entry is `gelu`, once the cube is regrouped. -/
theorem activate_at (y : FVec Ideal S2048x2048 .f32) (j : S2048x2048.Idx) : activate y j = gelu (y j) := by
  pointwise [activate, everywhere, gelu]
  simp only [mul_assoc]

/-- The reference's result at an entry. -/
theorem result_at (X W : FVec Ideal S2048x2048 .bf16) (j : S2048x2048.Idx) :
    result X W j = gelu (∑ k : Fin 2048, X (ix2 (j 0) k) * W (ix2 k (j 1))) := by
  rw [show result X W j = _ from activate_at (product X W) j, product_at]

/-- The reference runs and leaves `result` of its arguments, which end unchanged. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15)
          = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run m ρ

end Reference

section Bridge

open Cert.KernelIdeal Cert.KernelIdealRun

variable (m : (ℓ : Loc nD τ sig) → Buf (Elt Ideal) ℓ) (ρ : Dev nD → PrngReg)

/-- If every device's arguments are its blocks of whole arrays `X` and `W`, then every device's output is its block of
    the reference's result of `X` and `W`: an entry lies in the row block of the device its row names, whose block of `x`
    has that row. -/
theorem out_is_block (X W : FVec Ideal ⟨2, ![2048, 2048]⟩ .bf16)
    (hx : ∀ c : Dev nD, m ((c : Thread nD τ).loc main_arg0) = Layout.block ⟨2, ![512, 2048]⟩ ⟨2, ![2048, 2048]⟩ 0 4 c X)
    (hw : ∀ c : Dev nD, m ((c : Thread nD τ).loc main_arg1) = Layout.block ⟨2, ![2048, 512]⟩ ⟨2, ![2048, 2048]⟩ 1 4 c W)
    (c : Dev nD) :
    outAt m ρ c = Layout.block ⟨2, ![2048, 512]⟩ ⟨2, ![2048, 2048]⟩ 1 4 c (result X W) := by
  funext i
  have ht : Layout.Tiles ⟨2, ![2048, 512]⟩ ⟨2, ![2048, 2048]⟩ 1 4 := by decide
  have hs : Layout.Tiles ⟨2, ![512, 2048]⟩ ⟨2, ![2048, 2048]⟩ 0 4 := by decide
  refine (tile_at (xstg m ρ (blockOf i)) (wstg m ρ c) (within i)).trans ?_
  refine Eq.trans (congrArg gelu (Finset.sum_congr rfl fun k _ => ?_)) (result_at X W (ht.idx c i)).symm
  rw [show xstg m ρ (blockOf i) = _ from (xstg_eq m ρ _).trans (hx _), show wstg m ρ c = _ from (wstg_eq m ρ c).trans (hw c)]
  refine congrArg₂ (fun a b : EReal => a * b) (congrArg X (?_ : hs.idx _ _ = _)) (congrArg W (?_ : ht.idx _ _ = _))
  · refine funext fun b => Fin.ext ?_
    match b with
    | ⟨0, _⟩ => show (i 0).val / 512 * 512 + (i 0).val % 512 = (i 0).val; exact Nat.div_add_mod' _ _
    | ⟨1, _⟩ => rfl
  · refine funext fun b => Fin.ext ?_
    match b with
    | ⟨0, _⟩ => rfl
    | ⟨1, _⟩ => rfl

end Bridge

end Cert.Value
-- ==== Proof.lean ====
/-
The proof of the certificate's claim.

The kernel's run is proved once, for any float values, in the modules `Protocol…`, `Steps…`, `Body…` and `Launch…`. The
two claims that a kernel runs are that run with the values dropped; the claim that kernel and reference compute the same
function is its instance at the extended reals, with `Value` for the equation.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.LaunchKernel
public import proofs.«01_k».proof.Proof.LaunchKernelIdeal
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel, over machine words: it runs, its arguments end unchanged and every counter ends at zero. -/
theorem kernel_frame : Cert.quiescent_Kernel := fun m g _ =>
  (θ_run Cert.Kernel.defs _ _).mono (fun _ h => ⟨fun c =>
      ⟨(h.1 c 0).trans (Cert.KernelRun.final_x m g c), (h.1 c 1).trans (Cert.KernelRun.final_w m g c)⟩, h.2⟩)
    (Cert.KernelRun.run_main (F := Bits) m g)

/-- The same of the kernel over the extended reals. -/
theorem kernel_ideal_frame : Cert.quiescent_KernelIdeal := fun m g _ =>
  (θ_run Cert.KernelIdeal.defs _ _).mono (fun _ h => ⟨fun c =>
      ⟨(h.1 c 0).trans (Cert.KernelIdealRun.final_x m g c), (h.1 c 1).trans (Cert.KernelIdealRun.final_w m g c)⟩, h.2⟩)
    (Cert.KernelIdealRun.run_main (F := Ideal) m g)

/-- The same of the reference, which has no semaphore at all. -/
theorem reference_frame : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.Value.reference_run m g)

/-- Over the extended reals, every device's result is its block of columns of the reference's result. -/
theorem same_function : Cert.algebraic_KernelIdeal_ReferenceIdeal := fun m g m' g' _ agree =>
  ⟨_, (θ_run Cert.KernelIdeal.defs _ _).mono (fun _ h c =>
      ⟨((h.1 c 2).trans (Cert.KernelIdealRun.final_o m g c)).trans
          (Cert.Value.out_is_block m g _ _ (fun c => (agree c).1) (fun c => (agree c).2) c),
        (h.1 c 0).trans (Cert.KernelIdealRun.final_x m g c), (h.1 c 1).trans (Cert.KernelIdealRun.final_w m g c)⟩)
      (Cert.KernelIdealRun.run_main (F := Ideal) m g),
    (θ_run Cert.ReferenceIdeal.defs _ _).mono (fun _ h => h 0) (Cert.Value.reference_run m' g')⟩

/-- Everything the certificate claims. -/
theorem claim : Cert.Claim :=
  ⟨Cert.Kernel.Gen.facts, Cert.KernelIdeal.Gen.facts, Cert.ReferenceIdeal.Gen.facts,
    kernel_frame, kernel_ideal_frame, reference_frame, trivial, same_function⟩

end Cert.Proof

end
